-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_edges_grouped [hPre_edges_grouped : Cert.Pre_edges_grouped.Facts] (m : (ℓ : Loc Cert.KernelIdeal.nD Cert.KernelIdeal.τ Cert.KernelIdeal.sig) → Buf (Elt Ideal) ℓ) : Prop :=
  ∀ c : Dev Cert.KernelIdeal.nD,
    (Cert.Pre_edges_grouped.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_edges_grouped [hPre_edges_grouped : Cert.Pre_edges_grouped.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_edges_grouped.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_edges_grouped [hKernelIdeal : Cert.KernelIdeal.Facts] [hPre_edges_grouped : Cert.Pre_edges_grouped.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_edges_grouped m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_edges_grouped [hReferenceIdeal : Cert.ReferenceIdeal.Facts] [hPre_edges_grouped : Cert.Pre_edges_grouped.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_edges_grouped m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_edges_grouped [hKernelIdeal : Cert.KernelIdeal.Facts] [hReferenceIdeal : Cert.ReferenceIdeal.Facts] [hPre_edges_grouped : Cert.Pre_edges_grouped.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_edges_grouped m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_edges_grouped : Cert.Pre_edges_grouped.Facts),
    quiescent_Kernel (hKernel := hKernel)
    ∧ quiescent_KernelIdeal (hKernelIdeal := hKernelIdeal)
    ∧ quiescent_KernelIdeal_pre_edges_grouped (hKernelIdeal := hKernelIdeal) (hPre_edges_grouped := hPre_edges_grouped)
    ∧ quiescent_ReferenceIdeal (hReferenceIdeal := hReferenceIdeal)
    ∧ quiescent_ReferenceIdeal_pre_edges_grouped (hReferenceIdeal := hReferenceIdeal) (hPre_edges_grouped := hPre_edges_grouped)
    ∧ preserves_Kernel_KernelIdeal
    ∧ algebraic_KernelIdeal_ReferenceIdeal_pre_edges_grouped (hKernelIdeal := hKernelIdeal) (hReferenceIdeal := hReferenceIdeal) (hPre_edges_grouped := hPre_edges_grouped)
-- ==== Pre_edges_grouped.lean ====
abbrev S10000x128 : Shape := ⟨2, ![10000, 128]⟩
abbrev S2x160000 : Shape := ⟨2, ![2, 160000]⟩
abbrev S160000x128 : Shape := ⟨2, ![160000, 128]⟩
abbrev S256x128 : Shape := ⟨2, ![256, 128]⟩
abbrev S128 : Shape := ⟨1, ![128]⟩
abbrev S384x256 : Shape := ⟨2, ![384, 256]⟩
abbrev S256 : Shape := ⟨1, ![256]⟩
abbrev S128x128 : Shape := ⟨2, ![128, 128]⟩
abbrev S1x159999 : Shape := ⟨2, ![1, 159999]⟩
abbrev S159999 : Shape := ⟨1, ![159999]⟩

class Facts : Prop where
  slices_S2x160000_S1x159999_1_0 : S2x160000.Slices ![1, 0] S1x159999
  shapeCasts_S1x159999_S159999 : S1x159999.ShapeCasts S159999
  slices_S2x160000_S1x159999_1_1 : S2x160000.Slices ![1, 1] S1x159999

variable [Facts]

def fn {F : FTy → Type} [FloatOps F] (main_arg0 : FVec F S10000x128 .f32) (main_arg1 : IVec S2x160000 32) (main_arg2 : FVec F S160000x128 .f32) (main_arg3 : FVec F S256x128 .f32) (main_arg4 : FVec F S128 .f32) (main_arg5 : FVec F S384x256 .f32) (main_arg6 : FVec F S256 .f32) (main_arg7 : FVec F S256x128 .f32) (main_arg8 : FVec F S128 .f32) (main_arg9 : FVec F S256x128 .f32) (main_arg10 : FVec F S128 .f32) (main_arg11 : FVec F S128x128 .f32) (main_arg12 : FVec F S128 .f32) : IVec S159999 1 :=
  let main_v0 : IVec S1x159999 32 := (extractStridedSlice S1x159999 ![1, 0] · slices_S2x160000_S1x159999_1_0) main_arg1
  let main_v1 : IVec S159999 32 := shapeCast S159999 main_v0 shapeCasts_S1x159999_S159999
  let main_v2 : IVec S1x159999 32 := (extractStridedSlice S1x159999 ![1, 1] · slices_S2x160000_S1x159999_1_1) main_arg1
  let main_v3 : IVec S159999 32 := shapeCast S159999 main_v2 shapeCasts_S1x159999_S159999
  let main_v4 : IVec S159999 1 := cmpi .sle main_v1 main_v3
  main_v4
-- ==== Kernel.lean ====
abbrev S10000x128 : Shape := ⟨2, ![10000, 128]⟩
abbrev S2x160000 : Shape := ⟨2, ![2, 160000]⟩
abbrev S160000x128 : Shape := ⟨2, ![160000, 128]⟩
abbrev S256x128 : Shape := ⟨2, ![256, 128]⟩
abbrev S128 : Shape := ⟨1, ![128]⟩
abbrev S384x256 : Shape := ⟨2, ![384, 256]⟩
abbrev S256 : Shape := ⟨1, ![256]⟩
abbrev S128x128 : Shape := ⟨2, ![128, 128]⟩
abbrev S256x256 : Shape := ⟨2, ![256, 256]⟩
abbrev S128x256 : Shape := ⟨2, ![128, 256]⟩
abbrev S1x128 : Shape := ⟨2, ![1, 128]⟩
abbrev S1x256 : Shape := ⟨2, ![1, 256]⟩
abbrev S2000x128 : Shape := ⟨2, ![2000, 128]⟩
abbrev S32000x128 : Shape := ⟨2, ![32000, 128]⟩
abbrev S2000x256 : Shape := ⟨2, ![2000, 256]⟩
abbrev S2000x16x128 : Shape := ⟨3, ![2000, 16, 128]⟩
abbrev S16x2000x128 : Shape := ⟨3, ![16, 2000, 128]⟩
abbrev S1x2000x128 : Shape := ⟨3, ![1, 2000, 128]⟩

abbrev nBuf : Space → Nat
  | .hbm => 23
  | .vmem => 18
  | .smem => 0
  | _ => 0

abbrev bufTy : (tb : Table) → Fin (tcTables nBuf tb) → BufTy
  | .hbm, ⟨0, _⟩ => ⟨S10000x128, .f32⟩
  | .hbm, ⟨1, _⟩ => ⟨S2x160000, .i32⟩
  | .hbm, ⟨2, _⟩ => ⟨S160000x128, .f32⟩
  | .hbm, ⟨3, _⟩ => ⟨S256x128, .f32⟩
  | .hbm, ⟨4, _⟩ => ⟨S128, .f32⟩
  | .hbm, ⟨5, _⟩ => ⟨S384x256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S256x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128x128, .f32⟩
  | .hbm, ⟨15, _⟩ => ⟨S256x256, .f32⟩
  | .hbm, ⟨16, _⟩ => ⟨S128x256, .f32⟩
  | .hbm, ⟨17, _⟩ => ⟨S1x128, .f32⟩
  | .hbm, ⟨18, _⟩ => ⟨S1x256, .f32⟩
  | .hbm, ⟨19, _⟩ => ⟨S1x128, .f32⟩
  | .hbm, ⟨20, _⟩ => ⟨S1x128, .f32⟩
  | .hbm, ⟨21, _⟩ => ⟨S1x128, .f32⟩
  | .hbm, ⟨22, _⟩ => ⟨S10000x128, .f32⟩
  | .local _ .vmem, ⟨0, _⟩ => ⟨S2000x128, .f32⟩
  | .local _ .vmem, ⟨1, _⟩ => ⟨S2000x128, .f32⟩
  | .local _ .vmem, ⟨2, _⟩ => ⟨S32000x128, .f32⟩
  | .local _ .vmem, ⟨3, _⟩ => ⟨S32000x128, .f32⟩
  | .local _ .vmem, ⟨4, _⟩ => ⟨S128x128, .f32⟩
  | .local _ .vmem, ⟨5, _⟩ => ⟨S128x128, .f32⟩
  | .local _ .vmem, ⟨6, _⟩ => ⟨S256x256, .f32⟩
  | .local _ .vmem, ⟨7, _⟩ => ⟨S128x256, .f32⟩
  | .local _ .vmem, ⟨8, _⟩ => ⟨S256x128, .f32⟩
  | .local _ .vmem, ⟨9, _⟩ => ⟨S256x128, .f32⟩
  | .local _ .vmem, ⟨10, _⟩ => ⟨S128x128, .f32⟩
  | .local _ .vmem, ⟨11, _⟩ => ⟨S1x128, .f32⟩
  | .local _ .vmem, ⟨12, _⟩ => ⟨S1x256, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S2000x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceIdeal.lean ====
abbrev S10000x128 : Shape := ⟨2, ![10000, 128]⟩
abbrev S2x160000 : Shape := ⟨2, ![2, 160000]⟩
abbrev S160000x128 : Shape := ⟨2, ![160000, 128]⟩
abbrev S256x128 : Shape := ⟨2, ![256, 128]⟩
abbrev S128 : Shape := ⟨1, ![128]⟩
abbrev S384x256 : Shape := ⟨2, ![384, 256]⟩
abbrev S256 : Shape := ⟨1, ![256]⟩
abbrev S128x128 : Shape := ⟨2, ![128, 128]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S1 : Shape := ⟨1, ![1]⟩
abbrev S1x1 : Shape := ⟨2, ![1, 1]⟩
abbrev S10000x16x128 : Shape := ⟨3, ![10000, 16, 128]⟩
abbrev S10000x1x128 : Shape := ⟨3, ![10000, 1, 128]⟩
abbrev S10000x16x256 : Shape := ⟨3, ![10000, 16, 256]⟩
abbrev S1x1x128 : Shape := ⟨3, ![1, 1, 128]⟩
abbrev S10000x8x256 : Shape := ⟨3, ![10000, 8, 256]⟩
abbrev S10000x8x128 : Shape := ⟨3, ![10000, 8, 128]⟩
abbrev S10000x8x384 : Shape := ⟨3, ![10000, 8, 384]⟩
abbrev S1x1x256 : Shape := ⟨3, ![1, 1, 256]⟩
abbrev S10000x4x256 : Shape := ⟨3, ![10000, 4, 256]⟩
abbrev S10000x4x128 : Shape := ⟨3, ![10000, 4, 128]⟩
abbrev S10000x4x384 : Shape := ⟨3, ![10000, 4, 384]⟩
abbrev S10000x2x256 : Shape := ⟨3, ![10000, 2, 256]⟩
abbrev S10000x2x128 : Shape := ⟨3, ![10000, 2, 128]⟩
abbrev S10000x2x384 : Shape := ⟨3, ![10000, 2, 384]⟩
abbrev S10000x1x256 : Shape := ⟨3, ![10000, 1, 256]⟩
abbrev S10000x1x384 : Shape := ⟨3, ![10000, 1, 384]⟩
abbrev S10000x256 : Shape := ⟨2, ![10000, 256]⟩
abbrev S1x128 : Shape := ⟨2, ![1, 128]⟩

abbrev nBuf : Space → Nat
  | .hbm => 140
  | .vmem => 0
  | .smem => 0
  | _ => 0

abbrev hbmTy0_0 (i : Nat) : BufTy := match i % 128 with
  | 0 => ⟨S10000x128, .f32⟩
  | 1 => ⟨S2x160000, .i32⟩
  | 2 => ⟨S160000x128, .f32⟩
  | 3 => ⟨S256x128, .f32⟩
  | 4 => ⟨S128, .f32⟩
  | 5 => ⟨S384x256, .f32⟩
  | 6 => ⟨S256, .f32⟩
  | 7 => ⟨S256x128, .f32⟩
  | 8 => ⟨S128, .f32⟩
  | 9 => ⟨S256x128, .f32⟩
  | 10 => ⟨S128, .f32⟩
  | 11 => ⟨S128x128, .f32⟩
  | 12 => ⟨S128, .f32⟩
  | 13 => ⟨S1x160000, .i32⟩
  | 14 => ⟨S160000, .i32⟩
  | 15 => ⟨S160000, .i32⟩
  | 16 => ⟨S160000, .i32⟩
  | 17 => ⟨S160000, .i32⟩
  | 18 => ⟨S_, .i32⟩
  | 19 => ⟨S160000, .i32⟩
  | 20 => ⟨S160000, .i1⟩
  | 21 => ⟨S_, .i32⟩
  | 22 => ⟨S160000, .i32⟩
  | 23 => ⟨S160000, .i32⟩
  | 24 => ⟨S160000, .i32⟩
  | 25 => ⟨S160000x1, .i32⟩
  | 26 => ⟨S1, .i32⟩
  | 27 => ⟨S_, .i32⟩
  | 28 => ⟨S160000x1, .i32⟩
  | 29 => ⟨S160000x1, .i1⟩
  | 30 => ⟨S1x1, .i32⟩
  | 31 => ⟨S160000x1, .i32⟩
  | 32 => ⟨S160000x1, .i1⟩
  | 33 => ⟨S160000x1, .i1⟩
  | 34 => ⟨S_, .i1⟩
  | 35 => ⟨S160000, .i1⟩
  | 36 => ⟨S160000x128, .f32⟩
  | 37 => ⟨S160000x128, .i1⟩
  | 38 => ⟨S_, .f32⟩
  | 39 => ⟨S160000x128, .f32⟩
  | 40 => ⟨S160000x128, .f32⟩
  | 41 => ⟨S10000x16x128, .f32⟩
  | 42 => ⟨S10000x1x128, .f32⟩
  | 43 => ⟨S10000x16x128, .f32⟩
  | 44 => ⟨S10000x16x256, .f32⟩
  | 45 => ⟨S_, .f32⟩
  | 46 => ⟨S10000x16x256, .f32⟩
  | 47 => ⟨S10000x16x256, .f32⟩
  | 48 => ⟨S10000x16x128, .f32⟩
  | 49 => ⟨S1x1x128, .f32⟩
  | 50 => ⟨S10000x16x128, .f32⟩
  | 51 => ⟨S10000x16x128, .f32⟩
  | 52 => ⟨S10000x8x256, .f32⟩
  | 53 => ⟨S10000x1x128, .f32⟩
  | 54 => ⟨S10000x8x128, .f32⟩
  | 55 => ⟨S10000x8x384, .f32⟩
  | 56 => ⟨S_, .f32⟩
  | 57 => ⟨S10000x8x384, .f32⟩
  | 58 => ⟨S10000x8x384, .f32⟩
  | 59 => ⟨S10000x8x256, .f32⟩
  | 60 => ⟨S1x1x256, .f32⟩
  | 61 => ⟨S10000x8x256, .f32⟩
  | 62 => ⟨S10000x8x256, .f32⟩
  | 63 => ⟨S_, .f32⟩
  | 64 => ⟨S10000x8x256, .f32⟩
  | 65 => ⟨S10000x8x256, .f32⟩
  | 66 => ⟨S10000x8x128, .f32⟩
  | 67 => ⟨S1x1x128, .f32⟩
  | 68 => ⟨S10000x8x128, .f32⟩
  | 69 => ⟨S10000x8x128, .f32⟩
  | 70 => ⟨S10000x4x256, .f32⟩
  | 71 => ⟨S10000x1x128, .f32⟩
  | 72 => ⟨S10000x4x128, .f32⟩
  | 73 => ⟨S10000x4x384, .f32⟩
  | 74 => ⟨S_, .f32⟩
  | 75 => ⟨S10000x4x384, .f32⟩
  | 76 => ⟨S10000x4x384, .f32⟩
  | 77 => ⟨S10000x4x256, .f32⟩
  | 78 => ⟨S1x1x256, .f32⟩
  | 79 => ⟨S10000x4x256, .f32⟩
  | 80 => ⟨S10000x4x256, .f32⟩
  | 81 => ⟨S_, .f32⟩
  | 82 => ⟨S10000x4x256, .f32⟩
  | 83 => ⟨S10000x4x256, .f32⟩
  | 84 => ⟨S10000x4x128, .f32⟩
  | 85 => ⟨S1x1x128, .f32⟩
  | 86 => ⟨S10000x4x128, .f32⟩
  | 87 => ⟨S10000x4x128, .f32⟩
  | 88 => ⟨S10000x2x256, .f32⟩
  | 89 => ⟨S10000x1x128, .f32⟩
  | 90 => ⟨S10000x2x128, .f32⟩
  | 91 => ⟨S10000x2x384, .f32⟩
  | 92 => ⟨S_, .f32⟩
  | 93 => ⟨S10000x2x384, .f32⟩
  | 94 => ⟨S10000x2x384, .f32⟩
  | 95 => ⟨S10000x2x256, .f32⟩
  | 96 => ⟨S1x1x256, .f32⟩
  | 97 => ⟨S10000x2x256, .f32⟩
  | 98 => ⟨S10000x2x256, .f32⟩
  | 99 => ⟨S_, .f32⟩
  | 100 => ⟨S10000x2x256, .f32⟩
  | 101 => ⟨S10000x2x256, .f32⟩
  | 102 => ⟨S10000x2x128, .f32⟩
  | 103 => ⟨S1x1x128, .f32⟩
  | 104 => ⟨S10000x2x128, .f32⟩
  | 105 => ⟨S10000x2x128, .f32⟩
  | 106 => ⟨S10000x1x256, .f32⟩
  | 107 => ⟨S10000x1x128, .f32⟩
  | 108 => ⟨S10000x1x384, .f32⟩
  | 109 => ⟨S_, .f32⟩
  | 110 => ⟨S10000x1x384, .f32⟩
  | 111 => ⟨S10000x1x384, .f32⟩
  | 112 => ⟨S10000x1x256, .f32⟩
  | 113 => ⟨S1x1x256, .f32⟩
  | 114 => ⟨S10000x1x256, .f32⟩
  | 115 => ⟨S10000x1x256, .f32⟩
  | 116 => ⟨S_, .f32⟩
  | 117 => ⟨S10000x1x256, .f32⟩
  | 118 => ⟨S10000x1x256, .f32⟩
  | 119 => ⟨S10000x1x128, .f32⟩
  | 120 => ⟨S1x1x128, .f32⟩
  | 121 => ⟨S10000x1x128, .f32⟩
  | 122 => ⟨S10000x1x128, .f32⟩
  | 123 => ⟨S10000x128, .f32⟩
  | 124 => ⟨S10000x256, .f32⟩
  | 125 => ⟨S_, .f32⟩
  | 126 => ⟨S10000x256, .f32⟩
  | 127 => ⟨S10000x256, .f32⟩
  | _ => ⟨S10000x128, .f32⟩

abbrev hbmTy0_1 (i : Nat) : BufTy := match i % 128 with
  | 0 => ⟨S10000x128, .f32⟩
  | 1 => ⟨S1x128, .f32⟩
  | 2 => ⟨S10000x128, .f32⟩
  | 3 => ⟨S10000x128, .f32⟩
  | 4 => ⟨S_, .f32⟩
  | 5 => ⟨S10000x128, .f32⟩
  | 6 => ⟨S10000x128, .f32⟩
  | 7 => ⟨S10000x128, .f32⟩
  | 8 => ⟨S1x128, .f32⟩
  | 9 => ⟨S10000x128, .f32⟩
  | 10 => ⟨S10000x128, .f32⟩
  | 11 => ⟨S10000x128, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_call0_v0 : Ref sig .tc := ⟨.hbm, 15, rfl⟩
abbrev main_call0_v1_0 : Ref sig .tc := ⟨.hbm, 16, rfl⟩
abbrev main_v2 : Ref sig .tc := ⟨.hbm, 17, rfl⟩
abbrev main_call1_c : Ref sig .tc := ⟨.hbm, 18, rfl⟩
abbrev main_call1_v0 : Ref sig .tc := ⟨.hbm, 19, rfl⟩
abbrev main_call1_v1 : Ref sig .tc := ⟨.hbm, 20, rfl⟩
abbrev main_call1_c_0 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_c_1 : Ref sig .tc := ⟨.hbm, 26, rfl⟩
abbrev main_call1_c_2 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_3 : Ref sig .tc := ⟨.hbm, 34, rfl⟩
abbrev main_call1_v12 : Ref sig .tc := ⟨.hbm, 35, rfl⟩
abbrev main_call1_v13 : Ref sig .tc := ⟨.hbm, 36, rfl⟩
abbrev main_call1_v14 : Ref sig .tc := ⟨.hbm, 37, rfl⟩
abbrev main_call1_cst : Ref sig .tc := ⟨.hbm, 38, rfl⟩
abbrev main_call1_v15 : Ref sig .tc := ⟨.hbm, 39, rfl⟩
abbrev main_v3 : Ref sig .tc := ⟨.hbm, 40, rfl⟩
abbrev main_v4 : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_call2_cst : Ref sig .tc := ⟨.hbm, 45, rfl⟩
abbrev main_call2_v0 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_call3_cst : Ref sig .tc := ⟨.hbm, 56, rfl⟩
abbrev main_call3_v0 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_call4_cst : Ref sig .tc := ⟨.hbm, 63, rfl⟩
abbrev main_call4_v0 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_call5_cst : Ref sig .tc := ⟨.hbm, 74, rfl⟩
abbrev main_call5_v0 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_call6_cst : Ref sig .tc := ⟨.hbm, 81, rfl⟩
abbrev main_call6_v0 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_call7_cst : Ref sig .tc := ⟨.hbm, 92, rfl⟩
abbrev main_call7_v0 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_call8_cst : Ref sig .tc := ⟨.hbm, 99, rfl⟩
abbrev main_call8_v0 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_call9_cst : Ref sig .tc := ⟨.hbm, 109, rfl⟩
abbrev main_call9_v0 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_call10_cst : Ref sig .tc := ⟨.hbm, 116, rfl⟩
abbrev main_call10_v0 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_call11_cst : Ref sig .tc := ⟨.hbm, 125, rfl⟩
abbrev main_call11_v0 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_call12_cst : Ref sig .tc := ⟨.hbm, 132, rfl⟩
abbrev main_call12_v0 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩

abbrev nD : Nat := 1
abbrev τ : Topo := Topo.v7x

variable {F : FTy → Type} [FloatOps F]
-- ==== Proof.Model.lean ====
/-
  THE MATHEMATICS of the layer, over the extended reals and with no arrays in it: what happens to ONE node, whose
  feature row is `x` and whose sixteen incoming edges carry the feature rows `d 0 … d 15`.

  * each edge row is encoded together with the node's row (`enc`);
  * neighbouring encodings are merged in pairs by a two-layer perceptron that also sees the node's row (`step`),
    sixteen to eight to four to two to one (`level`, `root`);
  * a last two-layer perceptron takes the node's row and the root, and its result is added to the node's row (`node`).

  Every product of a row with a weight matrix is written with the rows of the matrix already split by which of the
  joined vectors they meet (`Net`), so no joined vector is formed here.
-/
module

public import Idealize.ShloMosaic.Lib.Pointwise

@[expose] public section

noncomputable section

namespace Cert.Tree

open Idealize.ShloMosaic

/-- A feature row. -/
abbrev Row := Fin 128 → EReal

/-- The weights and biases, each weight matrix split by the part of the joined vector it meets. -/
structure Net where
  /-- The encoder's rows that meet the edge's features. -/
  encD : Fin 128 → Fin 128 → EReal
  /-- The encoder's rows that meet the node's features. -/
  encX : Fin 128 → Fin 128 → EReal
  /-- The encoder's bias. -/
  encB : Fin 128 → EReal
  /-- The merge's first layer, the rows that meet the left child. -/
  oneL : Fin 128 → Fin 256 → EReal
  /-- The merge's first layer, the rows that meet the right child. -/
  oneR : Fin 128 → Fin 256 → EReal
  /-- The merge's first layer, the rows that meet the node's features. -/
  oneX : Fin 128 → Fin 256 → EReal
  /-- The merge's first bias. -/
  oneB : Fin 256 → EReal
  /-- The merge's second layer. -/
  two : Fin 256 → Fin 128 → EReal
  /-- The merge's second bias. -/
  twoB : Fin 128 → EReal
  /-- The node perceptron's first layer, the rows that meet the node's features. -/
  outX : Fin 128 → Fin 128 → EReal
  /-- The node perceptron's first layer, the rows that meet the root of the tree. -/
  outH : Fin 128 → Fin 128 → EReal
  /-- The node perceptron's first bias. -/
  outB : Fin 128 → EReal
  /-- The node perceptron's second layer. -/
  fin : Fin 128 → Fin 128 → EReal
  /-- The node perceptron's second bias. -/
  finB : Fin 128 → EReal

/-- The rectified row `u` against column `c` of the matrix `w`. -/
def rdot {K C : Nat} (u : Fin K → EReal) (w : Fin K → Fin C → EReal) (c : Fin C) : EReal :=
  ∑ k : Fin K, max (u k) 0 * w k c

/-- The encoding of an edge row `d` at a node of features `x`. -/
def enc (N : Net) (x d : Row) : Row := fun c => rdot d N.encD c + rdot x N.encX c + N.encB c

/-- The hidden layer of a merge of the rows `a` and `b` at a node of features `x`. -/
def hid (N : Net) (x a b : Row) : Fin 256 → EReal :=
  fun o => rdot a N.oneL o + rdot b N.oneR o + rdot x N.oneX o + N.oneB o

/-- The merge of the rows `a` and `b` at a node of features `x`. -/
def step (N : Net) (x a b : Row) : Row := fun c => rdot (hid N x a b) N.two c + N.twoB c

/-- One level of the tree: rows `2j` and `2j + 1` are merged into row `j`. -/
def level (N : Net) (x : Row) {n : Nat} (h : Fin (n * 2) → Row) : Fin n → Row :=
  fun j => step N x (h ⟨j.val * 2, by omega⟩) (h ⟨j.val * 2 + 1, by omega⟩)

/-- The leaves of the tree: the sixteen encoded edge rows. -/
def leaves (N : Net) (x : Row) (d : Fin 16 → Row) : Fin 16 → Row := fun j => enc N x (d j)

/-- After one level: eight rows. -/
def eight (N : Net) (x : Row) (d : Fin 16 → Row) : Fin 8 → Row := level N x (n := 8) (leaves N x d)

/-- After two levels: four rows. -/
def four (N : Net) (x : Row) (d : Fin 16 → Row) : Fin 4 → Row := level N x (n := 4) (eight N x d)

/-- After three levels: two rows. -/
def pair (N : Net) (x : Row) (d : Fin 16 → Row) : Fin 2 → Row := level N x (n := 2) (four N x d)

/-- After four levels: the root of the tree. -/
def root (N : Net) (x : Row) (d : Fin 16 → Row) : Row := level N x (n := 1) (pair N x d) 0

/-- The hidden layer of the node perceptron, of the node's features `x` and the root row `s`. -/
def outHid (N : Net) (x s : Row) : Row := fun o => rdot x N.outX o + rdot s N.outH o + N.outB o

/-- What the layer returns for a node of features `x` whose tree has the root `s`. -/
def out (N : Net) (x s : Row) : Row := fun c => rdot (outHid N x s) N.fin c + N.finB c + x c

/-- What the layer returns for a node of features `x` whose incoming edges carry the rows `d`. -/
def node (N : Net) (x : Row) (d : Fin 16 → Row) : Row := out N x (root N x d)

/-- The weights as the layer's argument arrays hold them: the encoder's matrix has the edge's rows first and the node's
    after them, the merge's first matrix the left child's, the right child's and the node's, the node perceptron's the
    node's and the root's. -/
def argNet (We : FVec Ideal ⟨2, ![256, 128]⟩ .f32) (be : FVec Ideal ⟨1, ![128]⟩ .f32)
    (W1 : FVec Ideal ⟨2, ![384, 256]⟩ .f32) (b1 : FVec Ideal ⟨1, ![256]⟩ .f32)
    (W2 : FVec Ideal ⟨2, ![256, 128]⟩ .f32) (b2 : FVec Ideal ⟨1, ![128]⟩ .f32)
    (Wm1 : FVec Ideal ⟨2, ![256, 128]⟩ .f32) (bm1 : FVec Ideal ⟨1, ![128]⟩ .f32)
    (Wm2 : FVec Ideal ⟨2, ![128, 128]⟩ .f32) (bm2 : FVec Ideal ⟨1, ![128]⟩ .f32) : Net where
  encD k c := We (ix2 ⟨k.val, by omega⟩ c)
  encX k c := We (ix2 ⟨128 + k.val, by omega⟩ c)
  encB c := be (ix1 c)
  oneL k o := W1 (ix2 ⟨k.val, by omega⟩ o)
  oneR k o := W1 (ix2 ⟨128 + k.val, by omega⟩ o)
  oneX k o := W1 (ix2 ⟨256 + k.val, by omega⟩ o)
  oneB o := b1 (ix1 o)
  two k c := W2 (ix2 k c)
  twoB c := b2 (ix1 c)
  outX k c := Wm1 (ix2 ⟨k.val, by omega⟩ c)
  outH k c := Wm1 (ix2 ⟨128 + k.val, by omega⟩ c)
  outB c := bm1 (ix1 c)
  fin k c := Wm2 (ix2 k c)
  finB c := bm2 (ix1 c)

/-- The layer on whole arrays at row `p`, column `c`: the mathematics of one node on row `p` of the node features `x` and
    on the rows `16 p, …, 16 p + 15` of the edge features `e`, the edges being grouped by node in that order. -/
def layerAt (N : Net) (x : FVec Ideal ⟨2, ![10000, 128]⟩ .f32) (e : FVec Ideal ⟨2, ![160000, 128]⟩ .f32)
    (p : Fin 10000) (c : Fin 128) : EReal :=
  node N (fun k => x (ix2 p k)) (fun j k => e (ix2 ⟨p.val * 16 + j.val, by omega⟩ k)) c

/-- The layer on whole arrays. -/
def layer (N : Net) (x : FVec Ideal ⟨2, ![10000, 128]⟩ .f32) (e : FVec Ideal ⟨2, ![160000, 128]⟩ .f32) :
    FVec Ideal ⟨2, ![10000, 128]⟩ .f32 :=
  fun i => layerAt N x e (i 0) (i 1)

end Cert.Tree

end
-- ==== Proof.Block.lean ====
/-
  WHAT ONE BLOCK COMPUTES. The kernel's body takes 2000 node rows and their 32000 edge rows (sixteen to a node, in
  order) and writes 2000 rows; this module reads the row it writes for node `r` of the block: it is the mathematics of
  one node (`Tree.node`) on node `r`'s features and on its edges' rows `16 r, …, 16 r + 15`.

  The body keeps the sixteen encoded edges of every node as sixteen matrices of 2000 rows and merges them in pairs;
  every merge is the same function of two such matrices (`merge`), so one statement (`merge_row`) serves all fifteen.
-/
module

public import proofs.«01_k».proof.Proof.Model
public import proofs.«01_k».proof.Proof.Gen.KernelIdeal.Value

@[expose] public section

set_option maxRecDepth 16384

noncomputable section

namespace Cert.KernelBlock

open Idealize.ShloMosaic Cert.KernelIdeal Cert.KernelIdeal.Gen Cert.Tree

/-- Row `r` of a matrix of 2000 rows. -/
abbrev row (v : FVec Ideal S2000x128 .f32) (r : Fin 2000) : Row := fun k => v (ix2 r k)

/-- Edge `j` of node `r` among the block's 32000 edge rows. -/
abbrev edgeRow (e : FVec Ideal S32000x128 .f32) (r : Fin 2000) (j : Fin 16) : Row :=
  fun k => e (ix2 ⟨r.val * 16 + j.val, by omega⟩ k)

variable (x0 : FVec Ideal S2000x128 .f32) (x1 : FVec Ideal S32000x128 .f32) (x2 : FVec Ideal S128x128 .f32)
  (x3 : FVec Ideal S128x128 .f32) (x4 : FVec Ideal S256x256 .f32) (x5 : FVec Ideal S128x256 .f32)
  (x6 : FVec Ideal S256x128 .f32) (x7 : FVec Ideal S256x128 .f32) (x8 : FVec Ideal S128x128 .f32)
  (x9 : FVec Ideal S1x128 .f32) (x10 : FVec Ideal S1x256 .f32) (x11 : FVec Ideal S1x128 .f32)
  (x12 : FVec Ideal S1x128 .f32) (x13 : FVec Ideal S1x128 .f32)

/-- The weights as the body's staged blocks hold them. -/
def net : Net where
  encD k c := x2 (ix2 k c)
  encX k c := x3 (ix2 k c)
  encB c := x9 (ix2 0 c)
  oneL k o := x4 (ix2 ⟨k.val, by omega⟩ o)
  oneR k o := x4 (ix2 ⟨128 + k.val, by omega⟩ o)
  oneX k o := x5 (ix2 k o)
  oneB o := x10 (ix2 0 o)
  two k c := x6 (ix2 k c)
  twoB c := x11 (ix2 0 c)
  outX k c := x7 (ix2 ⟨k.val, by omega⟩ c)
  outH k c := x7 (ix2 ⟨128 + k.val, by omega⟩ c)
  outB c := x12 (ix2 0 c)
  fin k c := x8 (ix2 k c)
  finB c := x13 (ix2 0 c)

/-- Encoded edge `j` of every node: slice `j` of the encoded edges, plus what the node's own features contribute. -/
def leaf (j : Nat) (h : S16x2000x128.Slices ![j, 0, 0] S1x2000x128) : FVec Ideal S2000x128 .f32 :=
  addf (shapeCast S2000x128 (extractStridedSlice S1x2000x128 ![j, 0, 0] (k0_pay5 (F := Ideal) x1 x2) h)
    shapeCasts_S1x2000x128_S2000x128) (k0_pay3 (F := Ideal) x0 x3 x9)

/-- Slice `j` of the sixteen is inside them. -/
theorem slices (j : Fin 16) : S16x2000x128.Slices ![j.val, 0, 0] S1x2000x128 := by
  revert j; decide

/-- One merge of two matrices of encodings, node by node. -/
def merge (a b : FVec Ideal S2000x128 .f32) : FVec Ideal S2000x128 .f32 :=
  k0_pay27 (F := Ideal) (k0_pay4 (F := Ideal) x0 x5 x10) a b (k0_pay22 (F := Ideal) x4) x6 (k0_pay23 (F := Ideal) x11)

/-- Row `r` of encoded edge `j` is the encoding of node `r`'s edge `j`. -/
theorem leaf_row (j : Fin 16) (r : Fin 2000) :
    row (leaf x0 x1 x2 x3 x9 j.val (slices j)) r
      = enc (net x2 x3 x4 x5 x6 x7 x8 x9 x10 x11 x12 x13) (row x0 r) (edgeRow x1 r j) := by
  funext c
  unfold row leaf enc rdot net
  pointwise [k0_pay5, k0_pay3, k0_pay2]
  exact (add_assoc _ _ _).symm

/-- Row `r` of a merge is the merge of the rows `r`. -/
theorem merge_row (a b : FVec Ideal S2000x128 .f32) (r : Fin 2000) :
    row (merge x0 x4 x5 x6 x10 x11 a b) r
      = step (net x2 x3 x4 x5 x6 x7 x8 x9 x10 x11 x12 x13) (row x0 r) (row a r) (row b r) := by
  funext c
  unfold row merge step hid rdot net
  pointwise [k0_pay27, k0_pay4, k0_pay2, k0_pay22, k0_pay23]
  simp only [add_assoc]

/-- Row `r` of the body's last perceptron is the node perceptron on the rows `r`. -/
theorem out_row (s : FVec Ideal S2000x128 .f32) (r : Fin 2000) :
    row (k0_pay1 (F := Ideal) x0 (k0_pay2 (F := Ideal) x0) s (Scalar.ofBits (F := Ideal) .f32 0x00000000#32) x7 x12 x8 x13) r
      = out (net x2 x3 x4 x5 x6 x7 x8 x9 x10 x11 x12 x13) (row x0 r) (row s r) := by
  funext c
  unfold row out outHid rdot net
  pointwise [k0_pay1, k0_pay2]

/-- A level of merges: matrices `2j` and `2j + 1` into matrix `j`. -/
def merges {n : Nat} (h : Fin (n * 2) → FVec Ideal S2000x128 .f32) : Fin n → FVec Ideal S2000x128 .f32 :=
  fun j => merge x0 x4 x5 x6 x10 x11 (h ⟨j.val * 2, by omega⟩) (h ⟨j.val * 2 + 1, by omega⟩)

/-- The rows `r` of a level of merges are the level of the tree on the rows `r`. -/
theorem merges_row {n : Nat} (h : Fin (n * 2) → FVec Ideal S2000x128 .f32) (r : Fin 2000) :
    (fun j => row (merges x0 x4 x5 x6 x10 x11 h j) r)
      = level (net x2 x3 x4 x5 x6 x7 x8 x9 x10 x11 x12 x13) (row x0 r) (fun i => row (h i) r) :=
  funext fun _ => merge_row x0 x2 x3 x4 x5 x6 x7 x8 x9 x10 x11 x12 x13 _ _ r

/-- The root of the body's tree of merges over the sixteen encoded edges. -/
def tree : FVec Ideal S2000x128 .f32 :=
  merges x0 x4 x5 x6 x10 x11 (n := 1) (merges x0 x4 x5 x6 x10 x11 (n := 2) (merges x0 x4 x5 x6 x10 x11 (n := 4)
    (merges x0 x4 x5 x6 x10 x11 (n := 8) fun j : Fin 16 => leaf x0 x1 x2 x3 x9 j.val (slices j)))) 0

/-- Row `r` of the body's tree is the root of node `r`'s tree. -/
theorem tree_row (r : Fin 2000) :
    row (tree x0 x1 x2 x3 x4 x5 x6 x9 x10 x11) r
      = root (net x2 x3 x4 x5 x6 x7 x8 x9 x10 x11 x12 x13) (row x0 r) (edgeRow x1 r) := by
  have m := fun {n} h => merges_row x0 x2 x3 x4 x5 x6 x7 x8 x9 x10 x11 x12 x13 (n := n) h r
  have l := funext fun j => leaf_row x0 x1 x2 x3 x4 x5 x6 x7 x8 x9 x10 x11 x12 x13 j r
  unfold root pair four eight leaves
  rw [← l, ← m, ← m, ← m, ← m]
  rfl

/-- Offsets of zero. -/
theorem zero_offset : (![0, 0] : Fin 2 → Nat) = fun _ => 0 := funext fun a => by fin_cases a <;> rfl

/-- The body's one store writes the node perceptron of the tree of merges. -/
theorem out_eq : out0_14 (F := Ideal) x0 x1 x2 x3 x4 x5 x6 x7 x8 x9 x10 x11 x12 x13
    = k0_pay1 (F := Ideal) x0 (k0_pay2 (F := Ideal) x0) (tree x0 x1 x2 x3 x4 x5 x6 x9 x10 x11)
        (Scalar.ofBits (F := Ideal) .f32 0x00000000#32) x7 x12 x8 x13 := by
  unfold_out out0_14
  rw [View.canon_unit_zero zero_offset]
  simp only [View.ld_unit_zero (S := S2000x128) zero_offset, View.ld_unit_zero (S := S32000x128) zero_offset,
    View.ld_unit_zero (S := S128x128) zero_offset, View.ld_unit_zero (S := S1x128) zero_offset,
    View.ld_unit_zero (S := S128x256) zero_offset, View.ld_unit_zero (S := S1x256) zero_offset,
    View.ld_unit_zero (S := S256x256) zero_offset, View.ld_unit_zero (S := S256x128) zero_offset]
  rfl

/-- WHAT THE BODY WRITES for node `r` of its block: the layer on that node's features and its sixteen edges' rows. -/
theorem block_row (r : Fin 2000) (c : Fin 128) :
    out0_14 (F := Ideal) x0 x1 x2 x3 x4 x5 x6 x7 x8 x9 x10 x11 x12 x13 (ix2 r c)
      = node (net x2 x3 x4 x5 x6 x7 x8 x9 x10 x11 x12 x13) (row x0 r) (edgeRow x1 r) c := by
  rw [out_eq]
  refine (congrFun (out_row x0 x2 x3 x4 x5 x6 x7 x8 x9 x10 x11 x12 x13 _ r) c).trans ?_
  rw [tree_row x0 x1 x2 x3 x4 x5 x6 x7 x8 x9 x10 x11 x12 x13 r]
  rfl

end Cert.KernelBlock

end
-- ==== Proof.Array.lean ====
/-
  WHAT THE KERNEL'S RESULT ARRAY HOLDS. The grid has five points; point `t` stages node rows `2000 t … 2000 t + 1999`,
  the edge rows `32000 t … 32000 t + 31999`, and the weights whole, and writes back the result's rows
  `2000 t … 2000 t + 1999`. Read through those blocks, what one block computes (Block.lean) is a block of the layer on
  whole arrays (`Tree.layer`); the five blocks tile the result, so the result IS the layer.
-/
module

public import proofs.«01_k».proof.Proof.Block

@[expose] public section

set_option maxRecDepth 16384

noncomputable section

namespace Cert.KernelArray

open Idealize.ShloMosaic Idealize.ShloMosaic.TcCoe Idealize.SL.Sem
open Cert.KernelIdeal Cert.KernelIdeal.Gen Cert.Tree
open Idealize.ShloMosaic.Pipeline (Dat)

variable (m : (ℓ : Loc nD τ sig) → Buf (Elt Ideal) ℓ) (c : Dev nD)

/-! ## What the host leaves for the kernel: the weight matrices cut in two, the biases as rows -/

/-- The encoder's rows for the edge. -/
theorem V_v0 : V m c main_v0
    = extractStridedSlice S128x128 ![0, 0] (m ((c : Thread nD τ).loc main_arg3)) slices_S256x128_S128x128_0_0 := rfl

/-- The encoder's rows for the node. -/
theorem V_v1 : V m c main_v1
    = extractStridedSlice S128x128 ![128, 0] (m ((c : Thread nD τ).loc main_arg3)) slices_S256x128_S128x128_128_0 := rfl

/-- The merge's rows for the two children. -/
theorem V_v2 : V m c main_v2
    = extractStridedSlice S256x256 ![0, 0] (m ((c : Thread nD τ).loc main_arg5)) slices_S384x256_S256x256_0_0 := rfl

/-- The merge's rows for the node. -/
theorem V_v3 : V m c main_v3
    = extractStridedSlice S128x256 ![256, 0] (m ((c : Thread nD τ).loc main_arg5)) slices_S384x256_S128x256_256_0 := rfl

/-- The encoder's bias as a row. -/
theorem V_v4 : V m c main_v4
    = shapeCast S1x128 (m ((c : Thread nD τ).loc main_arg4)) shapeCasts_S128_S1x128 := rfl

/-- The merge's first bias as a row. -/
theorem V_v5 : V m c main_v5
    = shapeCast S1x256 (m ((c : Thread nD τ).loc main_arg6)) shapeCasts_S256_S1x256 := rfl

/-- The merge's second bias as a row. -/
theorem V_v6 : V m c main_v6
    = shapeCast S1x128 (m ((c : Thread nD τ).loc main_arg8)) shapeCasts_S128_S1x128 := rfl

/-- The node perceptron's first bias as a row. -/
theorem V_v7 : V m c main_v7
    = shapeCast S1x128 (m ((c : Thread nD τ).loc main_arg10)) shapeCasts_S128_S1x128 := rfl

/-- The node perceptron's second bias as a row. -/
theorem V_v8 : V m c main_v8
    = shapeCast S1x128 (m ((c : Thread nD τ).loc main_arg12)) shapeCasts_S128_S1x128 := rfl

/-! ## What a point stages: the weights whole, the node rows and the edge rows of its own block -/

/-- Every point stages the weight matrices and the biases whole: each of these windows has one block, the array. -/
theorem iblk_whole (t : Fin cfg0.N) :
      iblk m c 2 t = V m c main_v0 ∧ iblk m c 3 t = V m c main_v1 ∧ iblk m c 4 t = V m c main_v2
      ∧ iblk m c 5 t = V m c main_v3 ∧ iblk m c 6 t = V m c main_arg7 ∧ iblk m c 7 t = V m c main_arg9
      ∧ iblk m c 8 t = V m c main_arg11 ∧ iblk m c 9 t = V m c main_v4 ∧ iblk m c 10 t = V m c main_v5
      ∧ iblk m c 11 t = V m c main_v6 ∧ iblk m c 12 t = V m c main_v7 ∧ iblk m c 13 t = V m c main_v8 := by
  refine ⟨?_, ?_, ?_, ?_, ?_, ?_, ?_, ?_, ?_, ?_, ?_, ?_⟩ <;>
    exact Memref.read_access_unit_zero (Elt Ideal) _ (funext fun a => by fin_cases a <;> rfl) _ (V m c _)

/-- Along the rows, point `t`'s blocks of the node features, of the edge features and of the result are number `t`;
    along the columns they are number 0. -/
theorem index_eq (t : Fin cfg0.N) : win0_0.index t 0 = t.val ∧ win0_0.index t 1 = 0 ∧ win0_1.index t 0 = t.val
    ∧ win0_1.index t 1 = 0 ∧ win0_14.index t 0 = t.val ∧ win0_14.index t 1 = 0 := by
  rcases fin_N0 t with rfl | rfl | rfl | rfl | rfl <;> decide +kernel

/-- Row `r` of point `t`'s block of node features is row `2000 t + r` of the array. -/
theorem iblk_0 (t : Fin cfg0.N) (r : Fin 2000) (k : Fin 128) (h : t.val * 2000 + r.val < 10000) :
    (iblk m c 0 t : FVec Ideal S2000x128 .f32) (ix2 r k)
      = m ((c : Thread nD τ).loc main_arg0) (ix2 (n0 := 10000) ⟨t.val * 2000 + r.val, h⟩ k) := by
  have hi := index_eq t
  unfold iblk
  rw [View.read_apply]
  show V m c main_arg0 _ = _
  rw [V_main_arg0]
  congr 1
  funext a
  apply Fin.ext
  match a with
  | ⟨0, _⟩ => show win0_0.index t 0 * 2000 + 1 * r.val = t.val * 2000 + r.val; rw [hi.1]; omega
  | ⟨1, _⟩ => show win0_0.index t 1 * 128 + 1 * k.val = k.val; rw [hi.2.1]; omega

/-- Row `e` of point `t`'s block of edge features is row `32000 t + e` of the array. -/
theorem iblk_1 (t : Fin cfg0.N) (e : Fin 32000) (k : Fin 128) (h : t.val * 32000 + e.val < 160000) :
    (iblk m c 1 t : FVec Ideal S32000x128 .f32) (ix2 e k)
      = m ((c : Thread nD τ).loc main_arg2) (ix2 (n0 := 160000) ⟨t.val * 32000 + e.val, h⟩ k) := by
  have hi := index_eq t
  unfold iblk
  rw [View.read_apply]
  show V m c main_arg2 _ = _
  rw [V_main_arg2]
  congr 1
  funext a
  apply Fin.ext
  match a with
  | ⟨0, _⟩ => show win0_1.index t 0 * 32000 + 1 * e.val = t.val * 32000 + e.val; rw [hi.2.2.1]; omega
  | ⟨1, _⟩ => show win0_1.index t 1 * 128 + 1 * k.val = k.val; rw [hi.2.2.2.1]; omega

/-! ## The result array -/

/-- The weights of device `c`'s argument arrays. -/
abbrev weights : Net :=
  argNet (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12))

/-- The layer on device `c`'s argument arrays: what the result array is shown to hold. -/
abbrev result : Buf (Elt Ideal) ((c : Thread nD τ).loc main_v9) :=
  layer (weights m c) (m ((c : Thread nD τ).loc main_arg0)) (m ((c : Thread nD τ).loc main_arg2))

/-- The weights every point stages are the argument arrays' weights. -/
theorem net_eq (t : Fin cfg0.N) :
    KernelBlock.net (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) = weights m c := by
  obtain ⟨e2, e3, e4, e5, e6, e7, e8, e9, e10, e11, e12, e13⟩ := iblk_whole m c t
  rw [e2, e3, e4, e5, e6, e7, e8, e9, e10, e11, e12, e13,
    V_v0, V_v1, V_v2, V_v3, V_v4, V_v5, V_v6, V_v7, V_v8, V_main_arg7, V_main_arg9, V_main_arg11]
  unfold KernelBlock.net weights argNet
  congr 1 <;> (funext i; first | (funext j; pointwise) | pointwise)

/-- What point `t` writes back is block `t` of the layer. -/
theorem flushed_eq (t : Fin cfg0.N) :
    (dats m 0 c).flushed 14 t = ((cfg0.win 14).blk t).view.read (Elt Ideal) (result m c) := by
  have hN : t.val < 5 := t.isLt
  have hi := index_eq t
  rw [Value.flushed14]
  funext (i : S2000x128.Idx)
  obtain ⟨r, k, rfl⟩ : ∃ (r : Fin 2000) (k : Fin 128), i = ix2 r k := ⟨i 0, i 1, eq_ix2 i⟩
  rw [View.read_apply]
  have hr : t.val * 2000 + r.val < 10000 := by omega
  have e : ((cfg0.win 14).blk t).view.emb (ix2 r k) = ix2 (n0 := 10000) ⟨t.val * 2000 + r.val, hr⟩ k := by
    funext a
    apply Fin.ext
    match a with
    | ⟨0, _⟩ => show win0_14.index t 0 * 2000 + 1 * r.val = t.val * 2000 + r.val; rw [hi.2.2.2.2.1]; omega
    | ⟨1, _⟩ => show win0_14.index t 1 * 128 + 1 * k.val = k.val; rw [hi.2.2.2.2.2]; omega
  rw [e]
  refine (KernelBlock.block_row _ _ _ _ _ _ _ _ _ _ _ _ _ _ r k).trans ?_
  have hx : KernelBlock.row (iblk m c 0 t) r
      = fun k => m ((c : Thread nD τ).loc main_arg0) (ix2 (n0 := 10000) ⟨t.val * 2000 + r.val, hr⟩ k) :=
    funext fun k => iblk_0 m c t r k hr
  have he : KernelBlock.edgeRow (iblk m c 1 t) r = fun j k =>
      m ((c : Thread nD τ).loc main_arg2) (ix2 (n0 := 160000) ⟨(t.val * 2000 + r.val) * 16 + j.val, by omega⟩ k) := by
    funext j k
    refine (iblk_1 m c t ⟨r.val * 16 + j.val, by omega⟩ k (by dsimp only; omega)).trans (congrArg _ ?_)
    exact congrArg (fun e => ix2 (n0 := 160000) e k) (Fin.ext (by dsimp only; omega))
  rw [net_eq, hx, he]
  rfl

/-- An index of the result array is in point `t`'s block when its row is among `2000 t, …, 2000 t + 1999`. -/
theorem mem_blk (t : Fin cfg0.N) (i : S10000x128.Idx) :
    i ∈ ((cfg0.win 14).blk t).view.set ↔ t.val * 2000 ≤ (i 0 : Nat) ∧ (i 0 : Nat) < t.val * 2000 + 2000 := by
  have hi := index_eq t
  have h1 : (i 1 : Nat) < 128 := (i 1).isLt
  show i ∈ ((View.whole main_v9).slice (win0_14.rect t)).set ↔ _
  rw [View.set_slice_whole, Rect.mem_set_unit]
  refine ⟨fun h => ?_, fun h a => ?_⟩
  · have h0 : win0_14.index t 0 * 2000 ≤ (i 0 : Nat) ∧ (i 0 : Nat) < win0_14.index t 0 * 2000 + 2000 := h 0
    rwa [hi.2.2.2.2.1] at h0
  · match a with
    | ⟨0, _⟩ => show win0_14.index t 0 * 2000 ≤ (i 0 : Nat) ∧ (i 0 : Nat) < win0_14.index t 0 * 2000 + 2000
                rwa [hi.2.2.2.2.1]
    | ⟨1, _⟩ => show win0_14.index t 1 * 128 ≤ (i 1 : Nat) ∧ (i 1 : Nat) < win0_14.index t 1 * 128 + 128
                rw [hi.2.2.2.2.2]; omega

/-- The five blocks tile the result array. -/
theorem cover (i : S10000x128.Idx) :
    ∃ t : Fin cfg0.N, (cfg0.win 14).flush t = true ∧ i ∈ ((cfg0.win 14).blk t).view.set := by
  have h0 : (i 0 : Nat) < 10000 := (i 0).isLt
  have hN : cfg0.N = 5 := N_0
  refine ⟨⟨(i 0 : Nat) / 2000, by omega⟩, flush0_14 _, ?_⟩
  rw [mem_blk]
  dsimp only
  omega

/-- THE RESULT ARRAY after the run is the layer on the argument arrays. -/
theorem final : (dats m 0 c).arrAt 14 cfg0.N = result m c :=
  (dats m 0 c).arrAt_eq_of_cover 14 (result m c) (fun t _ => flushed_eq m c t) cover

end Cert.KernelArray

end
-- ==== Proof.Grouping.lean ====
/-
  SORTING EDGES THAT ARE ALREADY IN ORDER. The reference sorts the edges by destination (stably) and takes the edges'
  feature rows in the sorted order; the kernel takes them as they come. Where the destinations are nondecreasing the
  stable sort moves nothing, so the two orders are one: the reference's sorted positions are 0, 1, 2, …
  (`positions_eq`), and the rows taken at those positions are the rows themselves (`taken_row`).
-/
module

public import proofs.«01_k».proof.Proof.Gen.ReferenceIdeal.Run
public import proofs.«01_k».proof.Proof.Gen.Pre_edges_grouped
public import Idealize.ShloMosaic.Lib.Pointwise
public import Idealize.ShloMosaic.Lib.SortFacts
public import Idealize.ShloMosaic.Lib.ReduceAll
public import Idealize.ShloMosaic.Lib.Routing.Ops

@[expose] public section

set_option maxRecDepth 16384

noncomputable section

namespace Cert.Grouping

open Idealize.ShloMosaic

/-! ## A stable sort of a list already in order -/

/-- A list none of whose later members sorts before an earlier one is left as it is by the stable sort. -/
theorem stableSort_eq_self {ι : Type} (before : ι → ι → Bool) (l : List ι)
    (h : l.Pairwise fun a b => before b a = false) : stableSort before l = l := by
  induction l with
  | nil => rfl
  | cons a l ih =>
    rw [List.pairwise_cons] at h
    unfold stableSort
    rw [ih h.2]
    cases l with
    | nil => rfl
    | cons b l =>
      unfold insertBefore
      rw [if_neg (by rw [h.1 b List.mem_cons_self]; exact Bool.false_ne_true)]

/-- So the sorting permutation of a fiber already in order is the identity. -/
theorem sortedFrom_eq_self {n : Nat} (before : Fin n → Fin n → Bool) (h : ∀ i j : Fin n, i < j → before j i = false)
    (k : Fin n) : sortedFrom before k = k := by
  have e : sortPositions n before = List.finRange n :=
    stableSort_eq_self before _ ((List.pairwise_lt_finRange n).imp fun {a b} hab => h a b hab)
  unfold sortedFrom
  rw [List.get_of_eq e]
  simp

/-! ## The destinations -/

/-- What the precondition says of two neighbouring edges: the earlier one's destination is at most the later one's. -/
theorem le_next {x : IVec Cert.ReferenceIdeal.S2x160000 32} {F : FTy → Type} [FloatOps F] {a0 a2 a3 a4 a5 a6 a7 a8 a9 a10 a11 a12}
    (h : Cert.Pre_edges_grouped.fn (F := F) a0 x a2 a3 a4 a5 a6 a7 a8 a9 a10 a11 a12 = fun _ => 1#1)
    (k : Nat) (hk : k + 1 < 160000) :
    (x (ix2 (n0 := 2) (n1 := 160000) 1 ⟨k, by omega⟩)).toInt ≤ (x (ix2 (n0 := 2) (n1 := 160000) 1 ⟨k + 1, hk⟩)).toInt := by
  have e := congrFun h (ix1 (n0 := 159999) ⟨k, by omega⟩)
  unfold Cert.Pre_edges_grouped.fn at e
  revert e
  pointwise
  intro e
  rw [show (⟨k + 1, hk⟩ : Fin 160000) = ⟨1 + k, by omega⟩ from Fin.ext (Nat.add_comm k 1)]
  exact IntOp.cmpi_sle.mp e

/-- A sequence each of whose members is at most the next is nondecreasing. -/
theorem monotone {f : Nat → Int} {n : Nat} (h : ∀ k, k + 1 < n → f k ≤ f (k + 1)) {i j : Nat} (hij : i ≤ j) (hj : j < n) :
    f i ≤ f j := by
  induction j, hij using Nat.le_induction with
  | base => exact le_refl _
  | succ j hij ih => exact (ih (by omega)).trans (h j hj)

open Cert.ReferenceIdeal Cert.ReferenceIdeal.Gen

/-- The destinations, one to an edge: row 1 of the edge list. -/
abbrev dests (x : IVec S2x160000 32) : IVec S160000 32 :=
  shapeCast S160000 (extractStridedSlice S1x160000 ![1, 0] x slices_S2x160000_S1x160000_1_0) shapeCasts_S1x160000_S160000

/-- The positions the reference takes the edges at: the stable sort of 0, 1, 2, … by destination. -/
abbrev positions (x : IVec S2x160000 32) : IVec S160000 32 :=
  (Host.sort2 S160000 0 comparator_i32_i32_d0 (dests x) (iotaInDim S160000 32 0)).2

/-- Edge `k`'s destination is entry `(1, k)` of the edge list. -/
theorem dests_apply (x : IVec S2x160000 32) (k : Fin 160000) : dests x (ix1 k) = x (ix2 1 k) := by
  unfold dests
  pointwise

/-- Where each destination is at most the next, the sorted positions are 0, 1, 2, …. -/
theorem positions_eq (x : IVec S2x160000 32)
    (h : ∀ (k : Nat) (hk : k + 1 < 160000),
      (x (ix2 (n0 := 2) (n1 := 160000) 1 ⟨k, by omega⟩)).toInt ≤ (x (ix2 (n0 := 2) (n1 := 160000) 1 ⟨k + 1, hk⟩)).toInt)
    (k : Fin 160000) : positions x (ix1 k) = BitVec.ofNat 32 k.val := by
  let f : Nat → Int := fun i => if hi : i < 160000 then (x (ix2 (n0 := 2) (n1 := 160000) 1 ⟨i, hi⟩)).toInt else 0
  have hf : ∀ i, i + 1 < 160000 → f i ≤ f (i + 1) := fun i hi => by
    show dite _ _ _ ≤ dite _ _ _
    rw [dif_pos (show i < 160000 by omega), dif_pos hi]
    exact h i hi
  have hle : ∀ i j : Fin 160000, i < j → (x (ix2 1 i)).toInt ≤ (x (ix2 1 j)).toInt := fun i j hij => by
    have := monotone hf (le_of_lt hij) j.isLt
    simpa only [f, dif_pos i.isLt, dif_pos j.isLt] using this
  unfold positions Host.sort2
  rw [dif_pos (show 0 < S160000.rank from Nat.one_pos)]
  dsimp only
  rw [sortedFrom_eq_self]
  · show iotaInDim S160000 32 0 (Shape.Idx.along (s := S160000) (ix1 k) (0 : Fin 1) k) = _
    rw [Shape.Idx.along_rank1]
    rfl
  · intro (i : Fin 160000) (j : Fin 160000) hij
    rw [beq_eq_false_iff_ne]
    intro hlt
    have hlt' : IntOp.cmpi .slt (dests x (Shape.Idx.along (s := S160000) (ix1 k) (0 : Fin 1) j))
        (dests x (Shape.Idx.along (s := S160000) (ix1 k) (0 : Fin 1) i)) = 1#1 := hlt
    have e : ∀ l : Fin 160000, dests x (Shape.Idx.along (s := S160000) (ix1 k) (0 : Fin 1) l) = x (ix2 1 l) := fun l => by
      rw [Shape.Idx.along_rank1]
      exact dests_apply x l
    rw [e j, e i, IntOp.cmpi_slt] at hlt'
    exact absurd (hle i j hij) (not_le.mpr hlt')

/-! ## The rows taken at those positions -/

/-- The positions as the reference's take reads them: a negative one counted from the end. -/
abbrev wrapped (s : IVec S160000 32) : IVec S160000x1 32 :=
  broadcastInDim S160000x1 ![0] bcast_S160000_S160000x1_0 (select
    (cmpi .slt s (broadcastInDim S160000 ![] bcast_S_S160000 (constantI S_ 32 0#32)))
    (addi s (broadcastInDim S160000 ![] bcast_S_S160000 (constantI S_ 32 160000#32))) s)

/-- Which positions are inside the array. -/
abbrev inside (i : IVec S160000x1 32) : IVec S160000 1 :=
  Host.reduce IntOp.andi (andi
    (cmpi .sge i (broadcastInDim S160000x1 ![] bcast_S_S160000x1 (constantI S_ 32 0#32)))
    (cmpi .sle i (broadcastInDim S160000x1 ![0, 1] bcast_S1x1_S160000x1_0_1
      (broadcastInDim S1x1 ![1] bcast_S1_S1x1_1 (constantI S1 32 159999#32)))))
    (constantI S_ 1 1#1) reducesTo_S160000x1_S160000_d1 h_S_

/-- The edge rows the reference takes at the positions `s`. -/
abbrev taken {F : FTy → Type} [FloatOps F] (e : FVec F S160000x128 .f32) (s : IVec S160000 32) : FVec F S160000x128 .f32 :=
  select (broadcastInDim S160000x128 ![0] bcast_S160000_S160000x128_0 (inside (wrapped s)))
    (Host.gather gather_S160000x128_S160000x1_S160000x128_1_0_n_n_0_1_1128 e (wrapped s))
    (broadcastInDim S160000x128 ![] bcast_S_S160000x128 (constant S_ .f32 0x7FC00000#32))

/-- A number below 160000 as a word is that number read signed. -/
theorem toInt_ofNat {k : Nat} (hk : k < 160000) : (BitVec.ofNat 32 k).toInt = k := by
  rw [BitVec.toInt_eq_toNat_of_lt] <;> rw [BitVec.toNat_ofNat, Nat.mod_eq_of_lt] <;> omega

/-- The positions 0, 1, 2, … are none of them negative, so they are read as they are. -/
theorem wrapped_apply (s : IVec S160000 32) (hs : ∀ k : Fin 160000, s (ix1 k) = BitVec.ofNat 32 k.val) (k : Fin 160000) :
    wrapped s (ix2 k 0) = BitVec.ofNat 32 k.val := by
  have hn : ¬ IntOp.cmpi .slt (BitVec.ofNat 32 k.val) 0#32 = 1#1 := by
    rw [IntOp.cmpi_slt, toInt_ofNat k.isLt]
    exact not_lt.mpr (Int.natCast_nonneg _)
  unfold wrapped
  pointwise [hs]
  exact if_neg hn

/-- The positions 0, 1, 2, … are all inside. -/
theorem inside_apply (s : IVec S160000 32) (hs : ∀ k : Fin 160000, s (ix1 k) = BitVec.ofNat 32 k.val) (k : Fin 160000) :
    inside (wrapped s) (ix1 k) = 1#1 := by
  refine Host.reduce_andi_one _ _ _ _ _ rfl fun i => ?_
  obtain ⟨p, q, rfl⟩ : ∃ (p : Fin 160000) (q : Fin 1), i = ix2 p q := ⟨i 0, i 1, eq_ix2 i⟩
  obtain rfl : q = 0 := Subsingleton.elim _ _
  have h0 : IntOp.cmpi .sge (BitVec.ofNat 32 p.val) 0#32 = 1#1 := by
    rw [IntOp.cmpi_sge, toInt_ofNat p.isLt]
    exact Int.natCast_nonneg _
  have h1 : IntOp.cmpi .sle (BitVec.ofNat 32 p.val) 159999#32 = 1#1 := by
    rw [IntOp.cmpi_sle, toInt_ofNat p.isLt]
    have : (159999#32).toInt = 159999 := by decide
    omega
  have hw := wrapped_apply s hs p
  generalize wrapped s = w at hw ⊢
  pointwise [hw, h0, h1]
  decide

/-- The rows taken at the positions 0, 1, 2, … are the rows. -/
theorem taken_row {F : FTy → Type} [FloatOps F] (e : FVec F S160000x128 .f32) (s : IVec S160000 32)
    (hs : ∀ k : Fin 160000, s (ix1 k) = BitVec.ofNat 32 k.val) (k : Fin 160000) (l : Fin 128) :
    taken e s (ix2 k l) = e (ix2 k l) := by
  have hi := inside_apply s hs k
  have hg : Host.gather gather_S160000x128_S160000x1_S160000x128_1_0_n_n_0_1_1128 e (wrapped s) (ix2 k l) = e (ix2 k l) :=
    Routing.gather_row _ rfl rfl rfl rfl rfl e (wrapped s) k l k (wrapped_apply s hs k) (by norm_num)
  unfold taken
  generalize inside (wrapped s) = w at hi ⊢
  generalize Host.gather gather_S160000x128_S160000x1_S160000x128_1_0_n_n_0_1_1128 e (wrapped s) = g at hg ⊢
  pointwise [hi, hg]

end Cert.Grouping

end
-- ==== Proof.Reference.lean ====
/-
  WHAT THE REFERENCE COMPUTES, stage by stage. Each stage is an expression over whole arrays, exactly as the reference
  has it, and its theorem reads one row of it as the mathematics of one node:

  * `encoded`: the sixteen encoded edges of each node (`Tree.enc`);
  * `merged8`, `merged4`, `merged2`, `merged1`: the levels of the tree (`Tree.level`, by `merge_rows`, which is stated once
    for all of them);
  * `finished`: the node perceptron and the residual (`Tree.out`).

  `computed_eq` puts them together, and `reference_eq` adds that edges already grouped are taken in the order they come.
-/
module

public import proofs.«01_k».proof.Proof.Model
public import proofs.«01_k».proof.Proof.Grouping

@[expose] public section

set_option maxRecDepth 16384

noncomputable section

namespace Cert.Reference

open Idealize.ShloMosaic Cert.ReferenceIdeal Cert.ReferenceIdeal.Gen Cert.Tree

variable (x : FVec Ideal S10000x128 .f32) (We : FVec Ideal S256x128 .f32) (be : FVec Ideal S128 .f32)
  (W1 : FVec Ideal S384x256 .f32) (b1 : FVec Ideal S256 .f32) (W2 : FVec Ideal S256x128 .f32)
  (b2 : FVec Ideal S128 .f32) (Wm1 : FVec Ideal S256x128 .f32) (bm1 : FVec Ideal S128 .f32)
  (Wm2 : FVec Ideal S128x128 .f32) (bm2 : FVec Ideal S128 .f32)

/-! ## The stages -/

/-- The encoded edges, sixteen to a node. -/
def encoded (e : FVec Ideal S160000x128 .f32) : FVec Ideal S10000x16x128 .f32 :=
  addf (Host.dotGeneral dot_S10000x16x256_S256x128_S10000x16x128_2_0_01_1_n_n none
    (maximumf (concatenate S10000x16x256 2 [⟨S10000x16x128, shapeCast _ e shapeCasts_S160000x128_S10000x16x128⟩,
      ⟨S10000x16x128, broadcastInDim S10000x16x128 ![0, 1, 2] bcast_S10000x1x128_S10000x16x128_0_1_2
        (broadcastInDim S10000x1x128 ![0, 2] bcast_S10000x128_S10000x1x128_0_2 x)⟩]
      concatenates_S10000x16x128_S10000x16x128_S10000x16x256_d2)
      (broadcastInDim S10000x16x256 ![] bcast_S_S10000x16x256 (constant S_ .f32 0x00000000#32))) We)
    (broadcastInDim S10000x16x128 ![0, 1, 2] bcast_S1x1x128_S10000x16x128_0_1_2
      (broadcastInDim S1x1x128 ![2] bcast_S128_S1x1x128_2 be))

/-- The level of the tree that leaves 8 rows to a node. -/
def merged8 (h : FVec Ideal S10000x16x128 .f32) : FVec Ideal S10000x8x128 .f32 :=
  addf (Host.dotGeneral dot_S10000x8x256_S256x128_S10000x8x128_2_0_01_1_n_n none
    (maximumf (addf (Host.dotGeneral dot_S10000x8x384_S384x256_S10000x8x256_2_0_01_1_n_n none
      (maximumf (concatenate S10000x8x384 2
        [⟨S10000x8x256, shapeCast _ h shapeCasts_S10000x16x128_S10000x8x256⟩,
        ⟨S10000x8x128, broadcastInDim S10000x8x128 ![0, 1, 2] bcast_S10000x1x128_S10000x8x128_0_1_2
          (broadcastInDim S10000x1x128 ![0, 2] bcast_S10000x128_S10000x1x128_0_2 x)⟩]
        concatenates_S10000x8x256_S10000x8x128_S10000x8x384_d2)
        (broadcastInDim S10000x8x384 ![] bcast_S_S10000x8x384 (constant S_ .f32 0x00000000#32))) W1)
      (broadcastInDim S10000x8x256 ![0, 1, 2] bcast_S1x1x256_S10000x8x256_0_1_2
        (broadcastInDim S1x1x256 ![2] bcast_S256_S1x1x256_2 b1)))
      (broadcastInDim S10000x8x256 ![] bcast_S_S10000x8x256 (constant S_ .f32 0x00000000#32))) W2)
    (broadcastInDim S10000x8x128 ![0, 1, 2] bcast_S1x1x128_S10000x8x128_0_1_2
      (broadcastInDim S1x1x128 ![2] bcast_S128_S1x1x128_2 b2))

/-- The level of the tree that leaves 4 rows to a node. -/
def merged4 (h : FVec Ideal S10000x8x128 .f32) : FVec Ideal S10000x4x128 .f32 :=
  addf (Host.dotGeneral dot_S10000x4x256_S256x128_S10000x4x128_2_0_01_1_n_n none
    (maximumf (addf (Host.dotGeneral dot_S10000x4x384_S384x256_S10000x4x256_2_0_01_1_n_n none
      (maximumf (concatenate S10000x4x384 2
        [⟨S10000x4x256, shapeCast _ h shapeCasts_S10000x8x128_S10000x4x256⟩,
        ⟨S10000x4x128, broadcastInDim S10000x4x128 ![0, 1, 2] bcast_S10000x1x128_S10000x4x128_0_1_2
          (broadcastInDim S10000x1x128 ![0, 2] bcast_S10000x128_S10000x1x128_0_2 x)⟩]
        concatenates_S10000x4x256_S10000x4x128_S10000x4x384_d2)
        (broadcastInDim S10000x4x384 ![] bcast_S_S10000x4x384 (constant S_ .f32 0x00000000#32))) W1)
      (broadcastInDim S10000x4x256 ![0, 1, 2] bcast_S1x1x256_S10000x4x256_0_1_2
        (broadcastInDim S1x1x256 ![2] bcast_S256_S1x1x256_2 b1)))
      (broadcastInDim S10000x4x256 ![] bcast_S_S10000x4x256 (constant S_ .f32 0x00000000#32))) W2)
    (broadcastInDim S10000x4x128 ![0, 1, 2] bcast_S1x1x128_S10000x4x128_0_1_2
      (broadcastInDim S1x1x128 ![2] bcast_S128_S1x1x128_2 b2))

/-- The level of the tree that leaves 2 rows to a node. -/
def merged2 (h : FVec Ideal S10000x4x128 .f32) : FVec Ideal S10000x2x128 .f32 :=
  addf (Host.dotGeneral dot_S10000x2x256_S256x128_S10000x2x128_2_0_01_1_n_n none
    (maximumf (addf (Host.dotGeneral dot_S10000x2x384_S384x256_S10000x2x256_2_0_01_1_n_n none
      (maximumf (concatenate S10000x2x384 2
        [⟨S10000x2x256, shapeCast _ h shapeCasts_S10000x4x128_S10000x2x256⟩,
        ⟨S10000x2x128, broadcastInDim S10000x2x128 ![0, 1, 2] bcast_S10000x1x128_S10000x2x128_0_1_2
          (broadcastInDim S10000x1x128 ![0, 2] bcast_S10000x128_S10000x1x128_0_2 x)⟩]
        concatenates_S10000x2x256_S10000x2x128_S10000x2x384_d2)
        (broadcastInDim S10000x2x384 ![] bcast_S_S10000x2x384 (constant S_ .f32 0x00000000#32))) W1)
      (broadcastInDim S10000x2x256 ![0, 1, 2] bcast_S1x1x256_S10000x2x256_0_1_2
        (broadcastInDim S1x1x256 ![2] bcast_S256_S1x1x256_2 b1)))
      (broadcastInDim S10000x2x256 ![] bcast_S_S10000x2x256 (constant S_ .f32 0x00000000#32))) W2)
    (broadcastInDim S10000x2x128 ![0, 1, 2] bcast_S1x1x128_S10000x2x128_0_1_2
      (broadcastInDim S1x1x128 ![2] bcast_S128_S1x1x128_2 b2))

/-- The level of the tree that leaves 1 rows to a node. -/
def merged1 (h : FVec Ideal S10000x2x128 .f32) : FVec Ideal S10000x1x128 .f32 :=
  addf (Host.dotGeneral dot_S10000x1x256_S256x128_S10000x1x128_2_0_01_1_n_n none
    (maximumf (addf (Host.dotGeneral dot_S10000x1x384_S384x256_S10000x1x256_2_0_01_1_n_n none
      (maximumf (concatenate S10000x1x384 2
        [⟨S10000x1x256, shapeCast _ h shapeCasts_S10000x2x128_S10000x1x256⟩,
        ⟨S10000x1x128, broadcastInDim S10000x1x128 ![0, 2] bcast_S10000x128_S10000x1x128_0_2 x⟩]
        concatenates_S10000x1x256_S10000x1x128_S10000x1x384_d2)
        (broadcastInDim S10000x1x384 ![] bcast_S_S10000x1x384 (constant S_ .f32 0x00000000#32))) W1)
      (broadcastInDim S10000x1x256 ![0, 1, 2] bcast_S1x1x256_S10000x1x256_0_1_2
        (broadcastInDim S1x1x256 ![2] bcast_S256_S1x1x256_2 b1)))
      (broadcastInDim S10000x1x256 ![] bcast_S_S10000x1x256 (constant S_ .f32 0x00000000#32))) W2)
    (broadcastInDim S10000x1x128 ![0, 1, 2] bcast_S1x1x128_S10000x1x128_0_1_2
      (broadcastInDim S1x1x128 ![2] bcast_S128_S1x1x128_2 b2))

/-- The node perceptron on the node's features and the roots of the trees, and the residual. -/
def finished (h : FVec Ideal S10000x1x128 .f32) : FVec Ideal S10000x128 .f32 :=
  addf (addf (Host.dotGeneral dot_S10000x128_S128x128_S10000x128_1_0_0_1_n_n none
    (maximumf (addf (Host.dotGeneral dot_S10000x256_S256x128_S10000x128_1_0_0_1_n_n none
      (maximumf (concatenate S10000x256 1 [⟨S10000x128, x⟩,
        ⟨S10000x128, shapeCast _ h shapeCasts_S10000x1x128_S10000x128⟩] concatenates_S10000x128_S10000x128_S10000x256_d1)
        (broadcastInDim S10000x256 ![] bcast_S_S10000x256 (constant S_ .f32 0x00000000#32))) Wm1)
      (broadcastInDim S10000x128 ![0, 1] bcast_S1x128_S10000x128_0_1
        (broadcastInDim S1x128 ![1] bcast_S128_S1x128_1 bm1)))
      (broadcastInDim S10000x128 ![] bcast_S_S10000x128 (constant S_ .f32 0x00000000#32))) Wm2)
    (broadcastInDim S10000x128 ![0, 1] bcast_S1x128_S10000x128_0_1
      (broadcastInDim S1x128 ![1] bcast_S128_S1x128_1 bm2))) x

/-- The whole reference after the taking of the edge rows. -/
def computed (e : FVec Ideal S160000x128 .f32) : FVec Ideal S10000x128 .f32 :=
  finished x Wm1 bm1 Wm2 bm2 (merged1 x W1 b1 W2 b2 (merged2 x W1 b1 W2 b2 (merged4 x W1 b1 W2 b2
    (merged8 x W1 b1 W2 b2 (encoded x We be e)))))

/-! ## One row of each stage -/

/-- The weights of the layer, of the reference's arguments. -/
abbrev net : Net := argNet We be W1 b1 W2 b2 Wm1 bm1 Wm2 bm2

/-- Row `j` of node `p` in the encoded edges is the encoding of the edge row `16 p + j` at that node. -/
theorem encoded_row (e : FVec Ideal S160000x128 .f32) (p : Fin 10000) (j : Fin 16) (c : Fin 128) :
    encoded x We be e (ix3 p j c) = leaves (net We be W1 b1 W2 b2 Wm1 bm1 Wm2 bm2) (fun k => x (ix2 p k))
      (fun j k => e (ix2 ⟨p.val * 16 + j.val, by omega⟩ k)) j c := by
  unfold encoded leaves enc rdot net argNet
  pointwise

/-- A merge whose two children lie joined in one row of 256 numbers, as the reference lays them out, is a merge of the two
    children: the sum over the 256 numbers is the sum over the left child and the sum over the right one. -/
theorem merge_rows {n : Nat} (u : Row) (h : Fin (n * 2) → Row) (j : Fin n) (c : Fin 128) :
    ∑ o : Fin 256, max (∑ k : Fin 256, max (h ⟨j.val * 2 + k.val / 128, by omega⟩ ⟨k.val % 128, by omega⟩) 0
          * W1 (ix2 ⟨k.val, by omega⟩ o)
        + ∑ k : Fin 128, max (u k) 0 * W1 (ix2 ⟨256 + k.val, by omega⟩ o) + b1 (ix1 o)) 0 * W2 (ix2 o c) + b2 (ix1 c)
      = level (net We be W1 b1 W2 b2 Wm1 bm1 Wm2 bm2) u h j c := by
  have split : ∀ o : Fin 256,
      ∑ k : Fin 256, max (h ⟨j.val * 2 + k.val / 128, by omega⟩ ⟨k.val % 128, by omega⟩) 0 * W1 (ix2 ⟨k.val, by omega⟩ o)
        = ∑ k : Fin 128, max (h ⟨j.val * 2, by omega⟩ k) 0 * W1 (ix2 ⟨k.val, by omega⟩ o)
          + ∑ k : Fin 128, max (h ⟨j.val * 2 + 1, by omega⟩ k) 0 * W1 (ix2 ⟨128 + k.val, by omega⟩ o) := by
    intro o
    refine (Fin.sum_univ_add (a := 128) (b := 128) _).trans (congrArg₂ (· + ·) ?_ ?_) <;>
      refine Finset.sum_congr rfl fun k _ => ?_
    · have e1 : (⟨j.val * 2 + (Fin.castAdd 128 k).val / 128, by have := (Fin.castAdd 128 k).isLt; omega⟩ : Fin (n * 2))
          = ⟨j.val * 2, by omega⟩ := Fin.ext (by simp only [Fin.val_castAdd]; omega)
      have e2 : (⟨(Fin.castAdd 128 k).val % 128, by omega⟩ : Fin 128) = k :=
        Fin.ext (by simp only [Fin.val_castAdd]; omega)
      rw [e1, e2]
      rfl
    · have e1 : (⟨j.val * 2 + (Fin.natAdd 128 k).val / 128, by have := (Fin.natAdd 128 k).isLt; omega⟩ : Fin (n * 2))
          = ⟨j.val * 2 + 1, by omega⟩ := Fin.ext (by simp only [Fin.val_natAdd]; omega)
      have e2 : (⟨(Fin.natAdd 128 k).val % 128, by omega⟩ : Fin 128) = k :=
        Fin.ext (by simp only [Fin.val_natAdd]; omega)
      rw [e1, e2]
      rfl
  unfold level step hid rdot net argNet
  simp only [split]

/-- Node `p`'s rows after the level that leaves 8 are that level of the tree on its 16 rows before it. -/
theorem merged8_row (h : FVec Ideal S10000x16x128 .f32) (p : Fin 10000) (j : Fin 8) (c : Fin 128) :
    merged8 x W1 b1 W2 b2 h (ix3 p j c) = level (net We be W1 b1 W2 b2 Wm1 bm1 Wm2 bm2) (n := 8)
      (fun k => x (ix2 p k)) (fun i k => h (ix3 p i k)) j c := by
  rw [← merge_rows]
  unfold merged8
  pointwise

/-- Node `p`'s rows after the level that leaves 4 are that level of the tree on its 8 rows before it. -/
theorem merged4_row (h : FVec Ideal S10000x8x128 .f32) (p : Fin 10000) (j : Fin 4) (c : Fin 128) :
    merged4 x W1 b1 W2 b2 h (ix3 p j c) = level (net We be W1 b1 W2 b2 Wm1 bm1 Wm2 bm2) (n := 4)
      (fun k => x (ix2 p k)) (fun i k => h (ix3 p i k)) j c := by
  rw [← merge_rows]
  unfold merged4
  pointwise

/-- Node `p`'s rows after the level that leaves 2 are that level of the tree on its 4 rows before it. -/
theorem merged2_row (h : FVec Ideal S10000x4x128 .f32) (p : Fin 10000) (j : Fin 2) (c : Fin 128) :
    merged2 x W1 b1 W2 b2 h (ix3 p j c) = level (net We be W1 b1 W2 b2 Wm1 bm1 Wm2 bm2) (n := 2)
      (fun k => x (ix2 p k)) (fun i k => h (ix3 p i k)) j c := by
  rw [← merge_rows]
  unfold merged2
  pointwise

/-- Node `p`'s rows after the level that leaves 1 are that level of the tree on its 2 rows before it. -/
theorem merged1_row (h : FVec Ideal S10000x2x128 .f32) (p : Fin 10000) (j : Fin 1) (c : Fin 128) :
    merged1 x W1 b1 W2 b2 h (ix3 p j c) = level (net We be W1 b1 W2 b2 Wm1 bm1 Wm2 bm2) (n := 1)
      (fun k => x (ix2 p k)) (fun i k => h (ix3 p i k)) j c := by
  rw [← merge_rows]
  unfold merged1
  pointwise

/-- Row `p` of the result is the node perceptron's output on the node's features and the root of its tree. -/
theorem finished_row (h : FVec Ideal S10000x1x128 .f32) (p : Fin 10000) (c : Fin 128) :
    finished x Wm1 bm1 Wm2 bm2 h (ix2 p c) = out (net We be W1 b1 W2 b2 Wm1 bm1 Wm2 bm2)
      (fun k => x (ix2 p k)) (fun k => h (ix3 p 0 k)) c := by
  unfold finished out outHid rdot net argNet
  pointwise

/-! ## The whole -/

/-- On the edge rows `e`, taken in the order they come, row `p` of what the reference computes is the layer's. -/
theorem computed_row (e : FVec Ideal S160000x128 .f32) (p : Fin 10000) (c : Fin 128) :
    computed x We be W1 b1 W2 b2 Wm1 bm1 Wm2 bm2 e (ix2 p c)
      = layerAt (net We be W1 b1 W2 b2 Wm1 bm1 Wm2 bm2) x e p c := by
  unfold computed layerAt node root pair four eight
  rw [finished_row x We be W1 b1 W2 b2 Wm1 bm1 Wm2 bm2]
  simp only [merged1_row x We be W1 b1 W2 b2 Wm1 bm1 Wm2 bm2, merged2_row x We be W1 b1 W2 b2 Wm1 bm1 Wm2 bm2,
    merged4_row x We be W1 b1 W2 b2 Wm1 bm1 Wm2 bm2, merged8_row x We be W1 b1 W2 b2 Wm1 bm1 Wm2 bm2,
    encoded_row x We be W1 b1 W2 b2 Wm1 bm1 Wm2 bm2]

/-- So the whole of what it computes on those rows is the layer. -/
theorem computed_eq (e : FVec Ideal S160000x128 .f32) :
    computed x We be W1 b1 W2 b2 Wm1 bm1 Wm2 bm2 e = layer (net We be W1 b1 W2 b2 Wm1 bm1 Wm2 bm2) x e := by
  funext i
  rw [eq_ix2 (n0 := 10000) (n1 := 128) i]
  exact computed_row x We be W1 b1 W2 b2 Wm1 bm1 Wm2 bm2 e _ _

/-- Where the destinations are nondecreasing, the reference's result is the layer on its arguments. -/
theorem reference_eq (m : (ℓ : Loc nD τ sig) → Buf (Elt Ideal) ℓ) (c : Dev nD)
    (h : Cert.Pre_edges_grouped.fn (F := Ideal) (m ((c.tc : Thread nD τ).loc main_arg0))
      (m ((c.tc : Thread nD τ).loc main_arg1)) (m ((c.tc : Thread nD τ).loc main_arg2))
      (m ((c.tc : Thread nD τ).loc main_arg3)) (m ((c.tc : Thread nD τ).loc main_arg4))
      (m ((c.tc : Thread nD τ).loc main_arg5)) (m ((c.tc : Thread nD τ).loc main_arg6))
      (m ((c.tc : Thread nD τ).loc main_arg7)) (m ((c.tc : Thread nD τ).loc main_arg8))
      (m ((c.tc : Thread nD τ).loc main_arg9)) (m ((c.tc : Thread nD τ).loc main_arg10))
      (m ((c.tc : Thread nD τ).loc main_arg11)) (m ((c.tc : Thread nD τ).loc main_arg12)) = fun _ => 1#1) :
    Cert.ReferenceIdeal.Value.res_main_v80 (F := Ideal) m c
      = layer (net (m ((c.tc : Thread nD τ).loc main_arg3)) (m ((c.tc : Thread nD τ).loc main_arg4))
          (m ((c.tc : Thread nD τ).loc main_arg5)) (m ((c.tc : Thread nD τ).loc main_arg6))
          (m ((c.tc : Thread nD τ).loc main_arg7)) (m ((c.tc : Thread nD τ).loc main_arg8))
          (m ((c.tc : Thread nD τ).loc main_arg9)) (m ((c.tc : Thread nD τ).loc main_arg10))
          (m ((c.tc : Thread nD τ).loc main_arg11)) (m ((c.tc : Thread nD τ).loc main_arg12)))
        (m ((c.tc : Thread nD τ).loc main_arg0)) (m ((c.tc : Thread nD τ).loc main_arg2)) := by
  rw [← computed_eq]
  have taken_eq : Grouping.taken (F := Ideal) (m ((c.tc : Thread nD τ).loc main_arg2))
      (Grouping.positions (m ((c.tc : Thread nD τ).loc main_arg1))) = m ((c.tc : Thread nD τ).loc main_arg2) := by
    funext i
    rw [eq_ix2 (n0 := 160000) (n1 := 128) i]
    exact Grouping.taken_row _ _ (Grouping.positions_eq _ (Grouping.le_next h)) _ _
  conv_rhs => rw [← taken_eq]
  rfl

end Cert.Reference

end
-- ==== Proof.lean ====
/-
  The proof of `Cert.Claim`: the frames of the three programs, that reading the kernel at the extended reals keeps its
  operations, and that the kernel computes what the reference computes where the edges are grouped by node.

  The value claim meets in the middle: the kernel's result array is `Tree.layer` of its arguments (`KernelArray.final`,
  from `KernelBlock.block_row`), and where the destinations are nondecreasing so is the reference's
  (`Reference.reference_eq`).
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_edges_grouped
public import proofs.«01_k».proof.Proof.Array
public import proofs.«01_k».proof.Proof.Reference
public import Idealize.ShloMosaic.Lib.Quiescent

@[expose] public section

noncomputable section

namespace Cert.Proof

open Idealize.ShloMosaic Idealize.SL.Sem

/-- The kernel as printed runs to its end without a fault and leaves its arguments and its counters as they were. -/
theorem frame_kernel : quiescent_Kernel := fun m ρ _ => Cert.Kernel.Gen.frame m ρ

/-- So does the kernel at the extended reals. -/
theorem frame_ideal : quiescent_KernelIdeal := fun m ρ _ => Cert.KernelIdeal.Gen.frame m ρ

/-- So does it where the edges are grouped. -/
theorem frame_ideal_grouped : quiescent_KernelIdeal_pre_edges_grouped := fun m ρ _ => Cert.KernelIdeal.Gen.frame m ρ

/-- So does the reference. -/
theorem frame_reference : quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- So does the reference where the edges are grouped. -/
theorem frame_reference_grouped : quiescent_ReferenceIdeal_pre_edges_grouped := fun m ρ _ => frame_reference m ρ trivial

/-- Where the edges are grouped by node, the kernel and the reference return the same array: the layer on the arguments. -/
theorem same_value : algebraic_KernelIdeal_ReferenceIdeal_pre_edges_grouped := by
  intro m ρ m' ρ' hpre hagree
  refine ⟨fun c => Cert.KernelArray.result m c, ?_, ?_⟩
  · exact (θ_run Cert.KernelIdeal.defs _ _).mono
      (fun _ h c => ⟨(h c).1.trans (Cert.KernelArray.final m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12⟩ := hagree c
    refine (Cert.Reference.reference_eq m' c ?_).trans ?_
    · rw [h0, h1, h2, h3, h4, h5, h6, h7, h8, h9, h10, h11, h12]
      exact hpre c
    · rw [h0, h2, h3, h4, h5, h6, h7, h8, h9, h10, h11, h12]

/-- The claims of the certificate. -/
theorem claim : Cert.Claim :=
  ⟨Cert.Kernel.Gen.facts, Cert.KernelIdeal.Gen.facts, Cert.ReferenceIdeal.Gen.facts, Cert.Pre_edges_grouped.Gen.facts,
    frame_kernel, frame_ideal, frame_ideal_grouped, frame_reference, frame_reference_grouped, trivial, same_value⟩

end Cert.Proof

end
